-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x2048x512 : Shape := ⟨3, ![4, 2048, 512]⟩
abbrev S4x2048 : Shape := ⟨2, ![4, 2048]⟩
abbrev S64x512 : Shape := ⟨2, ![64, 512]⟩
abbrev S64x8192 : Shape := ⟨2, ![64, 8192]⟩
abbrev S_ : Shape := ⟨0, ![]⟩

class Facts : Prop where
  bcast_S_S4x2048x512 : S_.BroadcastsInDim S4x2048x512 (![] : Fin 0 → Fin S4x2048x512.rank)
  reducesTo_S4x2048x512_S_d0_1_2 : S4x2048x512.ReducesTo [0, 1, 2] S_
  h_S_ : 0 < S_.numel
  bcast_S_S64x512 : S_.BroadcastsInDim S64x512 (![] : Fin 0 → Fin S64x512.rank)
  reducesTo_S64x512_S_d0_1 : S64x512.ReducesTo [0, 1] S_
  bcast_S_S64x8192 : S_.BroadcastsInDim S64x8192 (![] : Fin 0 → Fin S64x8192.rank)
  reducesTo_S64x8192_S_d0_1 : S64x8192.ReducesTo [0, 1] S_

variable [Facts]

def fn {F : FTy → Type} [FloatOps F] (main_arg0 : FVec F S4x2048x512 .f32) (main_arg1 : IVec S4x2048 1) (main_arg2 : FVec F S64x512 .f32) (main_arg3 : FVec F S64x8192 .f32) : IVec S_ 1 :=
  let main_v0 : FVec F S4x2048x512 .f32 := Host.absf main_arg0
  let main_cst : FVec F S_ .f32 := constant S_ .f32 0x7F800000#32
  let main_v1 : FVec F S4x2048x512 .f32 := broadcastInDim S4x2048x512 ![] bcast_S_S4x2048x512 main_cst
  let main_v2 : IVec S4x2048x512 1 := cmpf .olt main_v0 main_v1
  let main_c : IVec S_ 1 := constantI S_ 1 1#1
  let main_v3 : IVec S_ 1 := (fun x v => Host.reduce IntOp.andi x v reducesTo_S4x2048x512_S_d0_1_2 h_S_) main_v2 main_c
  let main_v4 : FVec F S64x512 .f32 := Host.absf main_arg2
  let main_cst_0 : FVec F S_ .f32 := constant S_ .f32 0x7F800000#32
  let main_v5 : FVec F S64x512 .f32 := broadcastInDim S64x512 ![] bcast_S_S64x512 main_cst_0
  let main_v6 : IVec S64x512 1 := cmpf .olt main_v4 main_v5
  let main_c_1 : IVec S_ 1 := constantI S_ 1 1#1
  let main_v7 : IVec S_ 1 := (fun x v => Host.reduce IntOp.andi x v reducesTo_S64x512_S_d0_1 h_S_) main_v6 main_c_1
  let main_v8 : IVec S_ 1 := andi main_v3 main_v7
  let main_v9 : FVec F S64x8192 .f32 := Host.absf main_arg3
  let main_cst_2 : FVec F S_ .f32 := constant S_ .f32 0x7F800000#32
  let main_v10 : FVec F S64x8192 .f32 := broadcastInDim S64x8192 ![] bcast_S_S64x8192 main_cst_2
  let main_v11 : IVec S64x8192 1 := cmpf .olt main_v9 main_v10
  let main_c_3 : IVec S_ 1 := constantI S_ 1 1#1
  let main_v12 : IVec S_ 1 := (fun x v => Host.reduce IntOp.andi x v reducesTo_S64x8192_S_d0_1 h_S_) main_v11 main_c_3
  let main_v13 : IVec S_ 1 := andi main_v8 main_v12
  main_v13
-- ==== Kernel.lean ====
abbrev S4x2048x512 : Shape := ⟨3, ![4, 2048, 512]⟩
abbrev S4x2048 : Shape := ⟨2, ![4, 2048]⟩
abbrev S64x512 : Shape := ⟨2, ![64, 512]⟩
abbrev S64x8192 : Shape := ⟨2, ![64, 8192]⟩
abbrev S8192x512 : Shape := ⟨2, ![8192, 512]⟩
abbrev S32x1x256 : Shape := ⟨3, ![32, 1, 256]⟩
abbrev S256x512 : Shape := ⟨2, ![256, 512]⟩
abbrev S1x1x256 : Shape := ⟨3, ![1, 1, 256]⟩
abbrev S8x8192 : Shape := ⟨2, ![8, 8192]⟩
abbrev S8192 : Shape := ⟨1, ![8192]⟩
abbrev S1x8192 : Shape := ⟨2, ![1, 8192]⟩
abbrev S256x64 : Shape := ⟨2, ![256, 64]⟩
abbrev S256x8192 : Shape := ⟨2, ![256, 8192]⟩
abbrev S256 : Shape := ⟨1, ![256]⟩
abbrev S256x1 : Shape := ⟨2, ![256, 1]⟩

abbrev nBuf : Space → Nat
  | .hbm => 7
  | .vmem => 7
  | .smem => 0
  | _ => 0

abbrev bufTy : (tb : Table) → Fin (tcTables nBuf tb) → BufTy
  | .hbm, ⟨0, _⟩ => ⟨S4x2048x512, .f32⟩
  | .hbm, ⟨1, _⟩ => ⟨S4x2048, .i1⟩
  | .hbm, ⟨2, _⟩ => ⟨S64x512, .f32⟩
  | .hbm, ⟨3, _⟩ => ⟨S64x8192, .f32⟩
  | .hbm, ⟨4, _⟩ => ⟨S8192x512, .f32⟩
  | .hbm, ⟨5, _⟩ => ⟨S32x1x256, .i32⟩
  | .hbm, ⟨6, _⟩ => ⟨S4x2048, .i32⟩
  | .local _ .vmem, ⟨0, _⟩ => ⟨S256x512, .f32⟩
  | .local _ .vmem, ⟨1, _⟩ => ⟨S256x512, .f32⟩
  | .local _ .vmem, ⟨2, _⟩ => ⟨S64x512, .f32⟩
  | .local _ .vmem, ⟨3, _⟩ => ⟨S64x8192, .f32⟩
  | .local _ .vmem, ⟨4, _⟩ => ⟨S1x1x256, .i32⟩
  | .local _ .vmem, ⟨5, _⟩ => ⟨S1x1x256, .i32⟩
  | .local _ .vmem, ⟨6, _⟩ => ⟨S8x8192, .f32⟩
  | _, _ => ⟨S4x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x256 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S4x2048x512 : Shape := ⟨3, ![4, 2048, 512]⟩
abbrev S4x2048 : Shape := ⟨2, ![4, 2048]⟩
abbrev S64x512 : Shape := ⟨2, ![64, 512]⟩
abbrev S64x8192 : Shape := ⟨2, ![64, 8192]⟩
abbrev S4x2048x64 : Shape := ⟨3, ![4, 2048, 64]⟩
abbrev S_ : Shape := ⟨0, ![]⟩
abbrev S4x2048x1 : Shape := ⟨3, ![4, 2048, 1]⟩
abbrev S8192 : Shape := ⟨1, ![8192]⟩
abbrev S1x1x8192 : Shape := ⟨3, ![1, 1, 8192]⟩
abbrev S4x2048x8192 : Shape := ⟨3, ![4, 2048, 8192]⟩

abbrev nBuf : Space → Nat
  | .hbm => 30
  | .vmem => 0
  | .smem => 0
  | _ => 0

abbrev bufTy : (tb : Table) → Fin (tcTables nBuf tb) → BufTy
  | .hbm, ⟨0, _⟩ => ⟨S4x2048x512, .f32⟩
  | .hbm, ⟨1, _⟩ => ⟨S4x2048, .i1⟩
  | .hbm, ⟨2, _⟩ => ⟨S64x512, .f32⟩
  | .hbm, ⟨3, _⟩ => ⟨S64x8192, .f32⟩
  | .hbm, ⟨4, _⟩ => ⟨S4x2048x64, .f32⟩
  | .hbm, ⟨5, _⟩ => ⟨S4x2048x64, .f32⟩
  | .hbm, ⟨6, _⟩ => ⟨S_, .f32⟩
  | .hbm, ⟨7, _⟩ => ⟨S4x2048, .f32⟩
  | .hbm, ⟨8, _⟩ => ⟨S4x2048x1, .f32⟩
  | .hbm, ⟨9, _⟩ => ⟨S64x8192, .f32⟩
  | .hbm, ⟨10, _⟩ => ⟨S_, .f32⟩
  | .hbm, ⟨11, _⟩ => ⟨S8192, .f32⟩
  | .hbm, ⟨12, _⟩ => ⟨S1x1x8192, .f32⟩
  | .hbm, ⟨13, _⟩ => ⟨S4x2048x8192, .f32⟩
  | .hbm, ⟨14, _⟩ => ⟨S4x2048x8192, .f32⟩
  | .hbm, ⟨15, _⟩ => ⟨S4x2048x8192, .f32⟩
  | .hbm, ⟨16, _⟩ => ⟨S4x2048x8192, .f32⟩
  | .hbm, ⟨17, _⟩ => ⟨S_, .f32⟩
  | .hbm, ⟨18, _⟩ => ⟨S4x2048x8192, .f32⟩
  | .hbm, ⟨19, _⟩ => ⟨S4x2048x8192, .f32⟩
  | .hbm, ⟨20, _⟩ => ⟨S4x2048x8192, .f32⟩
  | .hbm, ⟨21, _⟩ => ⟨S_, .f32⟩
  | .hbm, ⟨22, _⟩ => ⟨S4x2048x8192, .f32⟩
  | .hbm, ⟨23, _⟩ => ⟨S4x2048x8192, .f32⟩
  | .hbm, ⟨24, _⟩ => ⟨S4x2048x8192, .f32⟩
  | .hbm, ⟨25, _⟩ => ⟨S4x2048x8192, .i32⟩
  | .hbm, ⟨26, _⟩ => ⟨S_, .f32⟩
  | .hbm, ⟨27, _⟩ => ⟨S_, .i32⟩
  | .hbm, ⟨28, _⟩ => ⟨S4x2048, .f32⟩
  | .hbm, ⟨29, _⟩ => ⟨S4x2048, .i32⟩
  | _, _ => ⟨S4x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_call0_v0 : Ref sig .tc := ⟨.hbm, 25, rfl⟩
abbrev main_call0_cst : Ref sig .tc := ⟨.hbm, 26, rfl⟩
abbrev main_call0_c : Ref sig .tc := ⟨.hbm, 27, rfl⟩
abbrev main_call0_v1_0 : Ref sig .tc := ⟨.hbm, 28, rfl⟩
abbrev main_v17 : Ref sig .tc := ⟨.hbm, 29, rfl⟩

abbrev nD : Nat := 1
abbrev τ : Topo := Topo.v7x

variable {F : FTy → Type} [FloatOps F]
-- ==== Proof.Argmin.lean ====
module

public import proofs.«01_k».proof.Proof.Gen.ReferenceIdeal
public import Idealize.ShloMosaic.PureOps.Ideal.Laws
public import Idealize.ShloMosaic.Lib.Pointwise

@[expose] public section

set_option maxRecDepth 16384

noncomputable section

open Idealize.ShloMosaic

namespace Cert.ReferenceIdeal.Nearest
open Cert.ReferenceIdeal

/-- The pair `p` is kept over `q` by the arg-min: a smaller value, or the same value at a column number no larger. -/
def Keeps (p q : EReal × BitVec 32) : Prop := p.1 < q.1 ∨ (p.1 = q.1 ∧ p.2.toInt ≤ q.2.toInt)

/-- A pair is kept over itself. -/
theorem Keeps.refl (p : EReal × BitVec 32) : Keeps p p := Or.inr ⟨rfl, le_rfl⟩

/-- Being kept over is transitive. -/
theorem Keeps.trans {p q r : EReal × BitVec 32} (h : Keeps p q) (h' : Keeps q r) : Keeps p r := by
  rcases h with h | ⟨h, hi⟩ <;> rcases h' with h' | ⟨h', hi'⟩
  · exact Or.inl (h.trans h')
  · exact Or.inl (h' ▸ h)
  · exact Or.inl (h ▸ h')
  · exact Or.inr ⟨h.trans h', hi.trans hi'⟩

/-- A set bit stays set under a disjunction. -/
theorem one_or (y : BitVec 1) : 1#1 ||| y = 1#1 := by revert y; decide

/-- The arg-min's body returns one of its two operands, and that one is kept over both. -/
theorem reducer_keeps (p q : EReal × BitVec 32) :
    (reducer_argmin_f32_i32 (F := Ideal) p q = p ∨ reducer_argmin_f32_i32 (F := Ideal) p q = q)
      ∧ Keeps (reducer_argmin_f32_i32 (F := Ideal) p q) p ∧ Keeps (reducer_argmin_f32_i32 (F := Ideal) p q) q := by
  obtain ⟨a, i⟩ := p
  obtain ⟨b, j⟩ := q
  have hne : FloatOps.cmpf (F := Ideal) (φ := .f32) .une a a = 0#1 := by simp [Ideal.cmpf_def, Ideal.cmp]
  rcases lt_trichotomy a b with h | h | h
  · have e : reducer_argmin_f32_i32 (F := Ideal) (a, i) (b, j) = (a, i) := by
      have h1 : FloatOps.cmpf (F := Ideal) (φ := .f32) .olt a b = 1#1 := by simp [Ideal.cmpf_def, Ideal.cmp, h]
      simp [reducer_argmin_f32_i32, h1, hne, one_or, IntOp.ori, IntOp.andi, Scalar.select]
    rw [e]
    exact ⟨Or.inl rfl, Keeps.refl _, Or.inl h⟩
  · subst h
    have h1 : FloatOps.cmpf (F := Ideal) (φ := .f32) .olt a a = 0#1 := by simp [Ideal.cmpf_def, Ideal.cmp]
    have h2 : FloatOps.cmpf (F := Ideal) (φ := .f32) .oeq a a = 1#1 := by simp [Ideal.cmpf_def, Ideal.cmp]
    by_cases hij : i.toInt < j.toInt
    · have e : reducer_argmin_f32_i32 (F := Ideal) (a, i) (a, j) = (a, i) := by
        simp [reducer_argmin_f32_i32, h1, h2, hne, one_or, IntOp.ori, IntOp.andi, IntOp.cmpi, Scalar.select, BitVec.slt, hij]
      rw [e]
      exact ⟨Or.inl rfl, Keeps.refl _, Or.inr ⟨rfl, hij.le⟩⟩
    · have e : reducer_argmin_f32_i32 (F := Ideal) (a, i) (a, j) = (a, j) := by
        simp [reducer_argmin_f32_i32, h1, h2, hne, one_or, IntOp.ori, IntOp.andi, IntOp.cmpi, Scalar.select, BitVec.slt, hij]
      rw [e]
      exact ⟨Or.inr rfl, Or.inr ⟨rfl, not_lt.mp hij⟩, Keeps.refl _⟩
  · have e : reducer_argmin_f32_i32 (F := Ideal) (a, i) (b, j) = (b, j) := by
      have h1 : FloatOps.cmpf (F := Ideal) (φ := .f32) .olt a b = 0#1 := by
        simp only [Ideal.cmpf_def, Ideal.cmp, decide_eq_false (not_lt.mpr h.le)]
        rfl
      have h2 : FloatOps.cmpf (F := Ideal) (φ := .f32) .oeq a b = 0#1 := by simp [Ideal.cmpf_def, Ideal.cmp, h.ne']
      simp [reducer_argmin_f32_i32, h1, h2, hne, one_or, IntOp.ori, IntOp.andi, Scalar.select]
    rw [e]
    exact ⟨Or.inr rfl, Or.inl h, Keeps.refl _⟩

/-- The arg-min over a list returns the initial pair or one of the list, and it is kept over all of them. -/
theorem foldl_keeps (L : List (EReal × BitVec 32)) (p : EReal × BitVec 32) :
    (L.foldl (reducer_argmin_f32_i32 (F := Ideal)) p = p ∨ L.foldl (reducer_argmin_f32_i32 (F := Ideal)) p ∈ L)
      ∧ Keeps (L.foldl (reducer_argmin_f32_i32 (F := Ideal)) p) p
      ∧ ∀ q ∈ L, Keeps (L.foldl (reducer_argmin_f32_i32 (F := Ideal)) p) q := by
  induction L generalizing p with
  | nil => exact ⟨Or.inl rfl, Keeps.refl _, fun q hq => absurd hq List.not_mem_nil⟩
  | cons r L ih =>
    obtain ⟨hm, hp, hr⟩ := reducer_keeps p r
    obtain ⟨hm', hp', hL⟩ := ih (reducer_argmin_f32_i32 (F := Ideal) p r)
    rw [List.foldl_cons]
    refine ⟨?_, hp'.trans hp, fun q hq => ?_⟩
    · rcases hm' with h | h
      · rw [h]
        rcases hm with h | h
        · exact Or.inl h
        · exact Or.inr (by rw [h]; exact List.mem_cons_self)
      · exact Or.inr (List.mem_cons_of_mem _ h)
    · rcases List.mem_cons.mp hq with rfl | hq
      · exact hp'.trans hr
      · exact hL q hq

/-- Dropping the last of three axes. -/
theorem drop_last (i : S4x2048x8192.Idx) : Gen.reducesTo_S4x2048x8192_S4x2048_d2.drop i = ix2 (i 0) (i 1) := by
  funext b
  fin_cases b <;> rfl

/-- A column number read back as a signed integer. -/
theorem toInt_col (k : ℕ) (hk : k < 8192) : (BitVec.ofNat 32 k).toInt = (k : ℤ) := by
  rw [BitVec.toInt_eq_toNat_cond, BitVec.toNat_ofNat]
  have e : k % 2 ^ 32 = k := Nat.mod_eq_of_lt (by omega)
  rw [e, if_pos (by omega)]

/-- The arg-min over the last axis is the first place of the smallest value, when that value is below the top. -/
theorem argmin_at (x : FVec Ideal S4x2048x8192 .f32) (ix : FVec Ideal S_ .f32) (hix : ∀ z, ix z = ⊤) (b : Fin 4) (l : Fin 2048)
    (k : Fin 8192) (hlt : x (ix3 b l k) < ⊤) (hle : ∀ j : Fin 8192, x (ix3 b l k) ≤ x (ix3 b l j))
    (hfirst : ∀ j : Fin 8192, x (ix3 b l j) = x (ix3 b l k) → k ≤ j) :
    (Host.argReduce (reducer_argmin_f32_i32 (F := Ideal)) x (iotaInDim S4x2048x8192 32 2) ix (constantI S_ 32 0#32)
      Gen.reducesTo_S4x2048x8192_S4x2048_d2 Gen.h_S_ (ix2 b l)).2 = BitVec.ofNat 32 k := by
  rw [Ideal.argReduce_eq_reduce2, Host.reduce2_eq_foldl_fiber]
  set L := Host.argReduceFiber x (iotaInDim S4x2048x8192 32 2) Gen.reducesTo_S4x2048x8192_S4x2048_d2 (ix2 b l) with hL
  have hmem : ∀ p ∈ L, ∃ j : Fin 8192, p = (x (ix3 b l j), BitVec.ofNat 32 j) := by
    intro p hp
    rw [hL, Host.argReduceFiber, List.mem_map] at hp
    obtain ⟨n, hn, rfl⟩ := hp
    have hd := of_decide_eq_true (List.mem_filter.mp hn).2
    rw [drop_last] at hd
    generalize S4x2048x8192.rowMajor.symm n = i at hd ⊢
    have e0 : i 0 = b := congrFun hd 0
    have e1 : i 1 = l := congrFun hd 1
    have e : i = ix3 b l (i 2) := by
      funext a
      fin_cases a
      · exact e0
      · exact e1
      · rfl
    refine ⟨i 2, ?_⟩
    exact congrArg (fun z : S4x2048x8192.Idx => (x z, BitVec.ofNat 32 (i 2))) e
  have hk : (x (ix3 b l k), BitVec.ofNat 32 k) ∈ L := by
    rw [hL, Host.argReduceFiber, List.mem_map]
    refine ⟨S4x2048x8192.rowMajor (ix3 b l k), ?_, ?_⟩
    · rw [List.mem_filter]
      refine ⟨List.mem_finRange _, decide_eq_true ?_⟩
      rw [Equiv.symm_apply_apply, drop_last]
      rfl
    · rw [Equiv.symm_apply_apply]
      rfl
  rw [hix]
  obtain ⟨hr, -, hall⟩ := foldl_keeps L (⊤, constantI S_ 32 0#32 (Shape.Idx.first Gen.h_S_))
  have hkeep := hall _ hk
  rcases hr with hr | hr
  · rw [hr] at hkeep
    rcases hkeep with h | ⟨h, -⟩
    · exact absurd h not_top_lt
    · exact absurd h.symm hlt.ne
  · obtain ⟨j, hj⟩ := hmem _ hr
    rw [hj] at hkeep ⊢
    rcases hkeep with h | ⟨h, hi⟩
    · exact absurd h (not_lt.mpr (hle j))
    · have hi' : (j : ℤ) ≤ (k : ℤ) := by
        rw [← toInt_col j j.isLt, ← toInt_col k k.isLt]
        exact hi
      have : j = k := le_antisymm (by exact_mod_cast hi') (hfirst j h)
      rw [this]

end Cert.ReferenceIdeal.Nearest
-- ==== Proof.Pick.lean ====
module

public import Idealize.ShloMosaic.PureOps.Ideal.Laws

@[expose] public section

noncomputable section

open Idealize.ShloMosaic

namespace Cert.Nearest

/-- `k` is the first place where the scores `a` are largest. -/
def First {n : ℕ} (a : Fin n → EReal) (k : Fin n) : Prop := (∀ j, a j ≤ a k) ∧ ∀ j, a j = a k → k ≤ j

/-- The first place of the largest score as the kernel finds it: the least column number among those whose score
    reaches the largest, converted to an integer. -/
def pick (a : Fin 8192 → EReal) : BitVec 32 :=
  FloatOps.fptosi (F := Ideal) (φ := .f32) 32 (Finset.univ.fold min (⊤ : EReal) fun k =>
    if Finset.univ.fold max (⊥ : EReal) a ≤ a k then ((k : ℕ) : EReal) else ((8192 : ℕ) : EReal))

/-- A largest score has a first place. -/
theorem exists_first (a : Fin 8192 → EReal) : ∃ k, First a k := by
  obtain ⟨k₀, -, hk₀⟩ := Finset.exists_max_image Finset.univ a ⟨0, Finset.mem_univ _⟩
  have hne : (Finset.univ.filter fun k => a k = a k₀).Nonempty := ⟨k₀, by simp⟩
  obtain ⟨k, hk, hmin⟩ := Finset.exists_min_image _ id hne
  have hak : a k = a k₀ := (Finset.mem_filter.mp hk).2
  exact ⟨k, fun j => hak ▸ hk₀ j (Finset.mem_univ _), fun j hj =>
    hmin j (Finset.mem_filter.mpr ⟨Finset.mem_univ _, hj.trans hak⟩)⟩

/-- Truncating a column number to an integer is that number. -/
theorem fptosi_nat (k : ℕ) (hk : k < 8192) :
    FloatOps.fptosi (F := Ideal) (φ := .f32) 32 ((k : ℕ) : EReal) = BitVec.ofNat 32 k := by
  have hf : ⌊((k : ℕ) : ℝ)⌋ = (k : ℤ) := Int.floor_natCast k
  have h0 : (0 : ℝ) ≤ ((k : ℕ) : ℝ) := Nat.cast_nonneg k
  show Ideal.fptosi 32 (((k : ℕ) : ℝ) : EReal) = _
  rw [Ideal.fptosi, Ideal.toIntClamped_coe, if_pos h0, hf,
    show max (-((2 ^ (32 - 1) : ℕ) : ℤ)) (min (((2 ^ (32 - 1) : ℕ) : ℤ) - 1) (k : ℤ)) = (k : ℤ) by norm_num; omega]
  rfl

/-- The word of a column number, read as a signed integer and taken into the extended reals, is that number. -/
theorem sitofp_nat (k : ℕ) (hk : k < 8192) :
    FloatOps.sitofp (F := Ideal) .f32 (BitVec.ofNat 32 k) = ((k : ℕ) : EReal) := by
  show (((BitVec.ofNat 32 k).toInt : ℝ) : EReal) = _
  have h : (BitVec.ofNat 32 k).toInt = (k : ℤ) := by
    rw [BitVec.toInt_eq_toNat_cond, BitVec.toNat_ofNat]
    have e : k % 2 ^ 32 = k := Nat.mod_eq_of_lt (by omega)
    rw [e, if_pos (by omega)]
  rw [h]
  norm_cast

/-- The word that the reference's reduction starts from is plus infinity. -/
theorem lit_inf : Ideal.ofBits .f32 0x7F800000#32 = ⊤ := by simp [Ideal.ofBits, Ideal.ieee]
/-- The word that the kernel's maximum starts from is minus infinity. -/
theorem lit_neg_inf : Ideal.ofBits .f32 0xFF800000#32 = ⊥ := by simp [Ideal.ofBits, Ideal.ieee]
/-- The word of one half. -/
theorem lit_half : Ideal.ofBits .f32 0x3F000000#32 = ((1 / 2 : ℝ) : EReal) := by
  simp [Ideal.ofBits, Ideal.ieee, -EReal.coe_mul]
  norm_num [-EReal.coe_mul]
/-- The word of two. -/
theorem lit_two : Ideal.ofBits .f32 0x40000000#32 = ((2 : ℝ) : EReal) := by
  simp [Ideal.ofBits, Ideal.ieee, -EReal.coe_mul]
  norm_num [-EReal.coe_mul]
/-- The word of the number of codes, which the kernel's minimum reads where a place is not marked. -/
theorem lit_8192 : Ideal.ofBits .f32 0x46000000#32 = ((8192 : ℕ) : EReal) := by
  simp [Ideal.ofBits, Ideal.ieee, -EReal.coe_mul]
  rw [show (8388608 * (2 ^ 10)⁻¹ : ℝ) = ((8192 : ℕ) : ℝ) by norm_num]
  rfl

/-- What the kernel picks is the first place of the largest score. -/
theorem pick_eq (a : Fin 8192 → EReal) (k : Fin 8192) (h : First a k) : pick a = BitVec.ofNat 32 k := by
  have hmax : Finset.univ.fold max (⊥ : EReal) a = a k := by
    apply le_antisymm
    · exact (Finset.fold_max_le _).mpr ⟨bot_le, fun j _ => h.1 j⟩
    · exact (Finset.le_fold_max _).mpr (Or.inr ⟨k, Finset.mem_univ _, le_rfl⟩)
  have hmin : (Finset.univ.fold min (⊤ : EReal) fun j : Fin 8192 =>
      if a k ≤ a j then ((j : ℕ) : EReal) else ((8192 : ℕ) : EReal)) = ((k : ℕ) : EReal) := by
    apply le_antisymm
    · exact (Finset.fold_min_le _).mpr (Or.inr ⟨k, Finset.mem_univ _, by simp⟩)
    · refine (Finset.le_fold_min _).mpr ⟨le_top, fun j _ => ?_⟩
      split
      · next hj => exact_mod_cast h.2 j (le_antisymm (h.1 j) hj)
      · exact_mod_cast k.isLt.le
  rw [pick, hmax, hmin, fptosi_nat _ k.isLt]

end Cert.Nearest
-- ==== Proof.Score.lean ====
module

public import proofs.«01_k».proof.Proof.Pick
public import Idealize.ShloMosaic.Lib.Pointwise

@[expose] public section

noncomputable section

open Idealize.ShloMosaic

namespace Cert.Nearest

/-- A finite sum of real numbers, taken into the extended reals, is the sum of their images. -/
theorem coe_sum {ι : Type} [Fintype ι] (f : ι → ℝ) : ((∑ i, f i : ℝ) : EReal) = ∑ i, (f i : EReal) := by
  classical
  induction (Finset.univ : Finset ι) using Finset.induction_on with
  | empty => simp
  | insert a s ha ih => rw [Finset.sum_insert ha, Finset.sum_insert ha, EReal.coe_add, ih]

/-- The kernel's score of a code: the row's product with the code, less half the code's squared length. -/
def score (t : Fin 64 → EReal) (c : Fin 64 → EReal) : EReal :=
  (∑ q, t q * c q) - ((1 / 2 : ℝ) : EReal) * ∑ q, c q * c q

/-- The reference's distance of a row to a code. -/
def dist (t : Fin 64 → EReal) (c : Fin 64 → EReal) : EReal :=
  Ideal.sqrt (max ((∑ q, t q * t q) + (∑ q, c q * c q) - ((2 : ℝ) : EReal) * ∑ q, t q * c q) 0)

/-- On real rows and codes the score is the image of a real number. -/
theorem score_coe (t c : Fin 64 → ℝ) : score (fun q => (t q : EReal)) (fun q => (c q : EReal))
    = (((∑ q, t q * c q) - 1 / 2 * ∑ q, c q * c q : ℝ) : EReal) := by
  simp only [score, ← EReal.coe_mul, ← coe_sum, ← EReal.coe_sub]

/-- The expanded square of a distance is a sum of squares. -/
theorem sq_expand (t c : Fin 64 → ℝ) :
    (∑ q, t q * t q) + (∑ q, c q * c q) - 2 * ∑ q, t q * c q = ∑ q, (t q - c q) * (t q - c q) := by
  rw [Finset.mul_sum, ← Finset.sum_add_distrib, ← Finset.sum_sub_distrib]
  exact Finset.sum_congr rfl fun q _ => by ring

/-- The nonnegativity the root needs: the row's squared length less twice the score. -/
theorem radicand_nonneg (t c : Fin 64 → ℝ) :
    0 ≤ (∑ q, t q * t q) - 2 * ((∑ q, t q * c q) - 1 / 2 * ∑ q, c q * c q) := by
  have e : (∑ q, t q * t q) - 2 * ((∑ q, t q * c q) - 1 / 2 * ∑ q, c q * c q)
      = (∑ q, t q * t q) + (∑ q, c q * c q) - 2 * ∑ q, t q * c q := by ring
  rw [e, sq_expand]
  exact Finset.sum_nonneg fun q _ => mul_self_nonneg _

/-- On real rows and codes the distance is the root of the row's squared length less twice the score. -/
theorem dist_coe (t c : Fin 64 → ℝ) : dist (fun q => (t q : EReal)) (fun q => (c q : EReal))
    = ((Real.sqrt ((∑ q, t q * t q) - 2 * ((∑ q, t q * c q) - 1 / 2 * ∑ q, c q * c q)) : ℝ) : EReal) := by
  have h0 := radicand_nonneg t c
  have e : (∑ q, t q * t q) + (∑ q, c q * c q) - 2 * ∑ q, t q * c q
      = (∑ q, t q * t q) - 2 * ((∑ q, t q * c q) - 1 / 2 * ∑ q, c q * c q) := by ring
  simp only [dist, ← EReal.coe_mul, ← coe_sum, ← EReal.coe_sub, ← EReal.coe_add]
  rw [e, max_eq_left (by exact_mod_cast h0)]
  exact if_neg (not_lt.mpr h0)

/-- One code is at most as far as another exactly when its score is at least as large. -/
theorem dist_le_iff (t c c' : Fin 64 → ℝ) :
    dist (fun q => (t q : EReal)) (fun q => (c q : EReal)) ≤ dist (fun q => (t q : EReal)) (fun q => (c' q : EReal))
      ↔ score (fun q => (t q : EReal)) (fun q => (c' q : EReal)) ≤ score (fun q => (t q : EReal)) (fun q => (c q : EReal)) := by
  rw [dist_coe, dist_coe, score_coe, score_coe, EReal.coe_le_coe_iff, EReal.coe_le_coe_iff,
    Real.sqrt_le_sqrt_iff (radicand_nonneg t c')]
  constructor <;> intro h <;> linarith

/-- A distance is never the top value. -/
theorem dist_lt_top (t c : Fin 64 → ℝ) : dist (fun q => (t q : EReal)) (fun q => (c q : EReal)) < ⊤ := by
  rw [dist_coe]
  exact EReal.coe_lt_top _

/-- The code of row `(b, l)`: the first one of the largest score. -/
def codeOf (X : FVec Ideal ⟨3, ![4, 2048, 512]⟩ .f32) (W : FVec Ideal ⟨2, ![64, 512]⟩ .f32) (C : FVec Ideal ⟨2, ![64, 8192]⟩ .f32)
    (b : Fin 4) (l : Fin 2048) : BitVec 32 :=
  pick fun k => score (fun q => ∑ d : Fin 512, X (ix3 b l d) * W (ix2 q d)) (fun q => C (ix2 q k))

/-- The codes of all rows. -/
def codes (X : FVec Ideal ⟨3, ![4, 2048, 512]⟩ .f32) (W : FVec Ideal ⟨2, ![64, 512]⟩ .f32) (C : FVec Ideal ⟨2, ![64, 8192]⟩ .f32) :
    IVec ⟨2, ![4, 2048]⟩ 32 := fun j => codeOf X W C (j 0) (j 1)

end Cert.Nearest
-- ==== Proof.Reference.lean ====
module

public import proofs.«01_k».proof.Proof.Argmin
public import proofs.«01_k».proof.Proof.Score

@[expose] public section

set_option maxRecDepth 16384

noncomputable section

open Idealize.ShloMosaic

namespace Cert.ReferenceIdeal.Nearest
open Cert.ReferenceIdeal

/-- The reference's distances of every row to every code, as its program composes them. -/
def dists (X : FVec Ideal S4x2048x512 .f32) (W : FVec Ideal S64x512 .f32) (C : FVec Ideal S64x8192 .f32) :
    FVec Ideal S4x2048x8192 .f32 :=
  Host.sqrt
    (maximumf
      (subf
        (addf
          (broadcastInDim S4x2048x8192 ![0, 1, 2] Gen.bcast_S4x2048x1_S4x2048x8192_0_1_2
            (broadcastInDim S4x2048x1 ![0, 1] Gen.bcast_S4x2048_S4x2048x1_0_1
              (Host.reduceAdd
                (mulf (Host.dotGeneral dot_S4x2048x512_S64x512_S4x2048x64_2_1_01_0_n_n none X W)
                  (Host.dotGeneral dot_S4x2048x512_S64x512_S4x2048x64_2_1_01_0_n_n none X W))
                (constant S_ .f32 0x00000000#32) Gen.reducesTo_S4x2048x64_S4x2048_d2 Gen.h_S_)))
          (broadcastInDim S4x2048x8192 ![0, 1, 2] Gen.bcast_S1x1x8192_S4x2048x8192_0_1_2
            (broadcastInDim S1x1x8192 ![2] Gen.bcast_S8192_S1x1x8192_2
              (Host.reduceAdd (mulf C C) (constant S_ .f32 0x00000000#32) Gen.reducesTo_S64x8192_S8192_d0 Gen.h_S_))))
        (mulf (broadcastInDim S4x2048x8192 ![] Gen.bcast_S_S4x2048x8192 (constant S_ .f32 0x40000000#32))
          (Host.dotGeneral dot_S4x2048x64_S64x8192_S4x2048x8192_2_0_01_1_n_n none
            (Host.dotGeneral dot_S4x2048x512_S64x512_S4x2048x64_2_1_01_0_n_n none X W) C)))
      (broadcastInDim S4x2048x8192 ![] Gen.bcast_S_S4x2048x8192 (constant S_ .f32 0x00000000#32)))

/-- The distance of row `(b, l)` to code `k`. -/
theorem dists_at (X : FVec Ideal S4x2048x512 .f32) (W : FVec Ideal S64x512 .f32) (C : FVec Ideal S64x8192 .f32)
    (b : Fin 4) (l : Fin 2048) (k : Fin 8192) : dists X W C (ix3 b l k) = Cert.Nearest.dist
      (fun q => ∑ d : Fin 512, X (ix3 b l d) * W (ix2 q d)) (fun q => C (ix2 q k)) := by
  pointwise [dists]
  unfold Cert.Nearest.dist
  rw [Cert.Nearest.lit_two]

end Cert.ReferenceIdeal.Nearest
-- ==== Proof.Agree.lean ====
module

public import proofs.«01_k».proof.Proof.Reference

@[expose] public section

set_option maxRecDepth 16384

noncomputable section

open Idealize.ShloMosaic

namespace Cert.ReferenceIdeal.Nearest
open Cert.ReferenceIdeal

/-- A finite sum of products of real numbers is a real number. -/
theorem proj_coe {n : ℕ} (f g : Fin n → ℝ) :
    (∑ d, (f d : EReal) * (g d : EReal)) = ((∑ d, f d * g d : ℝ) : EReal) := by
  simp only [← EReal.coe_mul, ← Cert.Nearest.coe_sum]

/-- On real arrays the reference's arg-min of the distances is the kernel's pick of the scores, row by row. -/
theorem agree (X : FVec Ideal S4x2048x512 .f32) (W : FVec Ideal S64x512 .f32) (C : FVec Ideal S64x8192 .f32)
    (hX : ∀ i, X i = (((X i : EReal).toReal : ℝ) : EReal)) (hW : ∀ i, W i = (((W i : EReal).toReal : ℝ) : EReal))
    (hC : ∀ i, C i = (((C i : EReal).toReal : ℝ) : EReal)) (b : Fin 4) (l : Fin 2048) :
    (Host.argReduce (reducer_argmin_f32_i32 (F := Ideal)) (dists X W C) (iotaInDim S4x2048x8192 32 2)
      (constant S_ .f32 0x7F800000#32) (constantI S_ 32 0#32) Gen.reducesTo_S4x2048x8192_S4x2048_d2 Gen.h_S_ (ix2 b l)).2
      = Cert.Nearest.codeOf X W C b l := by
  set t : Fin 64 → ℝ := fun q => ∑ d : Fin 512, (X (ix3 b l d) : EReal).toReal * (W (ix2 q d) : EReal).toReal with ht
  set cr : Fin 8192 → Fin 64 → ℝ := fun k q => (C (ix2 q k) : EReal).toReal with hcr
  have et : (fun q : Fin 64 => ∑ d : Fin 512, X (ix3 b l d) * W (ix2 q d)) = fun q => ((t q : ℝ) : EReal) := by
    funext q
    rw [ht, ← proj_coe]
    exact Finset.sum_congr rfl fun d _ => by rw [← hX, ← hW]
  have ec : ∀ k, (fun q : Fin 64 => C (ix2 q k)) = fun q => ((cr k q : ℝ) : EReal) := fun k => funext fun q => hC _
  have hd : ∀ k, dists X W C (ix3 b l k) = Cert.Nearest.dist (fun q => ((t q : ℝ) : EReal)) (fun q => ((cr k q : ℝ) : EReal)) := by
    intro k
    rw [dists_at, et, ec]
  have hs : (fun k => Cert.Nearest.score (fun q => ∑ d : Fin 512, X (ix3 b l d) * W (ix2 q d)) (fun q => C (ix2 q k)))
      = fun k => Cert.Nearest.score (fun q => ((t q : ℝ) : EReal)) (fun q => ((cr k q : ℝ) : EReal)) := by
    funext k
    rw [et, ec]
  unfold Cert.Nearest.codeOf
  rw [hs]
  obtain ⟨k, hk⟩ := Cert.Nearest.exists_first
    fun k => Cert.Nearest.score (fun q => ((t q : ℝ) : EReal)) (fun q => ((cr k q : ℝ) : EReal))
  rw [Cert.Nearest.pick_eq _ k hk]
  refine argmin_at (dists X W C) _ (fun _ => Cert.Nearest.lit_inf) b l k ?_ (fun j => ?_) (fun j hj => ?_)
  · rw [hd]
    exact Cert.Nearest.dist_lt_top _ _
  · rw [hd, hd]
    exact (Cert.Nearest.dist_le_iff _ _ _).mpr (hk.1 j)
  · rw [hd, hd] at hj
    exact hk.2 j (le_antisymm (hk.1 j) ((Cert.Nearest.dist_le_iff _ _ _).mp hj.le))

/-- The same for the whole array of codes. -/
theorem agree_all (X : FVec Ideal S4x2048x512 .f32) (W : FVec Ideal S64x512 .f32) (C : FVec Ideal S64x8192 .f32)
    (hX : ∀ i, X i = (((X i : EReal).toReal : ℝ) : EReal)) (hW : ∀ i, W i = (((W i : EReal).toReal : ℝ) : EReal))
    (hC : ∀ i, C i = (((C i : EReal).toReal : ℝ) : EReal)) :
    (fun j => (Host.argReduce (reducer_argmin_f32_i32 (F := Ideal)) (dists X W C) (iotaInDim S4x2048x8192 32 2)
      (constant S_ .f32 0x7F800000#32) (constantI S_ 32 0#32) Gen.reducesTo_S4x2048x8192_S4x2048_d2 Gen.h_S_ j).2)
      = (Cert.Nearest.codes X W C : IVec S4x2048 32) := by
  funext j
  rw [eq_ix2 j]
  exact agree X W C hX hW hC (j 0) (j 1)

end Cert.ReferenceIdeal.Nearest
-- ==== Proof.Finite.lean ====
module

public import proofs.«01_k».proof.Pre_finite
public import proofs.«01_k».proof.Proof.Gen.Pre_finite
public import Idealize.ShloMosaic.PureOps.Ideal.Laws
public import Idealize.ShloMosaic.Lib.ReduceAll
public import proofs.«01_k».proof.Proof.Pick

@[expose] public section

set_option maxRecDepth 16384

noncomputable section

open Idealize.ShloMosaic

namespace Cert.Pre_finite.Reals
open Cert.Pre_finite

instance : Cert.Pre_finite.Facts := Cert.Pre_finite.Gen.facts

/-- A rank-0 array has one index. -/
instance : Subsingleton S_.Idx := ⟨fun a b => funext fun i => i.elim0⟩

/-- A conjunction of two bits is set only when both are. -/
theorem and_one (a b : BitVec 1) (h : IntOp.andi a b = 1#1) : a = 1#1 ∧ b = 1#1 := by
  revert a b
  decide

/-- An extended real whose absolute value is below the top is a real number. -/
theorem real_of_abs (a : EReal) (h : FloatOps.cmpf (F := Ideal) (φ := .f32) .olt (FloatOps.absf (F := Ideal) (φ := .f32) a)
    (Ideal.ofBits .f32 0x7F800000#32) = 1#1) : a = ((a.toReal : ℝ) : EReal) := by
  rw [Cert.Nearest.lit_inf, Ideal.cmpf_def, Ideal.absf_def] at h
  have h' : max a (-a) < ⊤ := by
    by_contra hn
    simp [Ideal.cmp, hn] at h
  refine (EReal.coe_toReal ?_ ?_).symm
  · rintro rfl
    simp at h'
  · rintro rfl
    simp at h'

/-- Under the precondition every element of the three arrays is a real number. -/
theorem reals (X : FVec Ideal S4x2048x512 .f32) (M : IVec S4x2048 1) (W : FVec Ideal S64x512 .f32) (C : FVec Ideal S64x8192 .f32)
    (h : ∀ j, Cert.Pre_finite.fn (F := Ideal) X M W C j = 1#1) :
    (∀ i, X i = (((X i : EReal).toReal : ℝ) : EReal)) ∧ (∀ i, W i = (((W i : EReal).toReal : ℝ) : EReal))
      ∧ ∀ i, C i = (((C i : EReal).toReal : ℝ) : EReal) := by
  have hj := h (Shape.Idx.first Gen.facts.h_S_)
  obtain ⟨hXW, hC⟩ := and_one _ _ hj
  obtain ⟨hX, hW⟩ := and_one _ _ hXW
  exact ⟨fun i => real_of_abs _ (Host.reduce_andi_all _ _ _ _ _ hX i), fun i => real_of_abs _ (Host.reduce_andi_all _ _ _ _ _ hW i),
    fun i => real_of_abs _ (Host.reduce_andi_all _ _ _ _ _ hC i)⟩

end Cert.Pre_finite.Reals
-- ==== Proof.Row.lean ====
module

public import proofs.«01_k».proof.Proof.Gen.KernelIdeal.Frame
public import Idealize.ShloMosaic.Lib.Pipeline.ValueKit
public import Idealize.ShloMosaic.Lib.Pipeline.ReadBack
public import Idealize.ShloMosaic.Lib.Claim
public import proofs.«01_k».proof.Proof.Score

@[expose] public section

set_option maxRecDepth 16384

noncomputable section

open Idealize.ShloMosaic Idealize.ShloMosaic.TcCoe Idealize.SL.Sem
open Idealize.ShloMosaic.Pipeline (Dat)

namespace Cert.KernelIdeal.Nearest
open Cert.KernelIdeal Cert.KernelIdeal.Gen

/-- The first row of the scratch. -/
def iotaRow : FVec Ideal S1x8192 .f32 :=
  View.ld (S := S8x8192) (Val := Elt Ideal) (e' := .f32) (k0_pay1 (F := Ideal))
    (Rect.unit (s := S8x8192) ![0, 0] S1x8192.size inb_S8x8192_S1x8192_0_0)

/-- Its elements are the column numbers. -/
theorem iotaRow_at (k : Fin 8192) : iotaRow (ix2 0 k) = ((k : ℕ) : EReal) := by
  unfold iotaRow
  rw [View.ld_apply]
  pointwise [k0_pay1]
  exact Cert.Nearest.sitofp_nat k k.isLt

end Cert.KernelIdeal.Nearest
-- ==== Proof.Adj.lean ====
module

public import proofs.«01_k».proof.Proof.Row

@[expose] public section

set_option maxRecDepth 16384

noncomputable section

open Idealize.ShloMosaic Idealize.SL.Sem

namespace Cert.KernelIdeal.Nearest
open Cert.KernelIdeal Cert.KernelIdeal.Gen

/-- The block's scores: one for each of its rows and each code. -/
def scores (C : FVec Ideal S64x8192 .f32) (x : FVec Ideal S256x512 .f32) (W : FVec Ideal S64x512 .f32) : FVec Ideal S256x8192 .f32 :=
  subf
    (matmul dot_S256x64_S64x8192_S256x8192_1_0_0_1_n_n none
      (matmul dot_S256x512_S64x512_S256x64_1_1_0_0_n_n none (shapeCast S256x512 x Gen.shapeCasts_S256x512_S256x512) W
        (constant S256x64 .f32 0x00000000#32)) C (constant S256x8192 .f32 0x00000000#32))
    (broadcastTo S256x8192
      (mulf (broadcast S1x8192 (Scalar.ofBits (F := Ideal) .f32 0x3F000000#32))
        (shapeCast S1x8192 (multiReduction .add [0] S8192 (mulf C C) 0x00000000#32 Gen.reduces_S64x8192_S8192 (.inl rfl) rfl)
          Gen.shapeCasts_S8192_S1x8192)) Gen.broadcasts_S1x8192_S256x8192)

/-- A score read at a row and a code. -/
theorem scores_at (C : FVec Ideal S64x8192 .f32) (x : FVec Ideal S256x512 .f32) (W : FVec Ideal S64x512 .f32)
    (r : Fin 256) (k : Fin 8192) : scores C x W (ix2 r k)
      = Cert.Nearest.score (fun q => ∑ d : Fin 512, x (ix2 r d) * W (ix2 q d)) (fun q => C (ix2 q k)) := by
  pointwise [scores]
  unfold Cert.Nearest.score
  rw [Cert.Nearest.lit_half]

end Cert.KernelIdeal.Nearest
-- ==== Proof.Least.lean ====
module

public import proofs.«01_k».proof.Proof.Adj

@[expose] public section

set_option maxRecDepth 16384

noncomputable section

open Idealize.ShloMosaic Idealize.SL.Sem

namespace Cert.KernelIdeal.Nearest
open Cert.KernelIdeal Cert.KernelIdeal.Gen

/-- The largest score of each row, as a column. -/
def best (A : FVec Ideal S256x8192 .f32) : FVec Ideal S256 .f32 :=
  multiReduction .maximumf [1] S256 A 0xFF800000#32 Gen.reduces_S256x8192_S256 (.inl rfl) rfl

/-- The largest score of a row. -/
theorem best_at (A : FVec Ideal S256x8192 .f32) (r : Fin 256) :
    best A (ix1 r) = Finset.univ.fold max (⊥ : EReal) fun k : Fin 8192 => A (ix2 r k) := by
  pointwise [best]
  rw [Cert.Nearest.lit_neg_inf]

/-- Each column number where the row's score reaches its largest, the number of codes elsewhere. -/
def marked (A : FVec Ideal S256x8192 .f32) (B : FVec Ideal S256 .f32) (I : FVec Ideal S1x8192 .f32) : FVec Ideal S256x8192 .f32 :=
  select
    (cmpf .oge A (broadcastTo S256x8192 (shapeCast S256x1 B Gen.shapeCasts_S256_S256x1) Gen.broadcasts_S256x1_S256x8192))
    (broadcastTo S256x8192 (shapeCast S1x8192 I Gen.shapeCasts_S1x8192_S1x8192) Gen.broadcasts_S1x8192_S256x8192)
    (broadcast S256x8192 (Scalar.ofBits (F := Ideal) .f32 0x46000000#32))

/-- A mark read at a row and a code. -/
theorem marked_at (A : FVec Ideal S256x8192 .f32) (B : FVec Ideal S256 .f32) (I : FVec Ideal S1x8192 .f32) (r : Fin 256)
    (k : Fin 8192) : marked A B I (ix2 r k)
      = if B (ix1 r) ≤ A (ix2 r k) then I (ix2 0 k) else ((8192 : ℕ) : EReal) := by
  pointwise [marked]
  rw [Cert.Nearest.lit_8192]

/-- The least mark of each row, converted to an integer. -/
def least (D : FVec Ideal S256x8192 .f32) : IVec S1x1x256 32 :=
  shapeCast S1x1x256 (fptosi 32 (multiReduction .minimumf [1] S256 D 0x7F800000#32 Gen.reduces_S256x8192_S256 (.inl rfl) rfl))
    Gen.shapeCasts_S256_S1x1x256

/-- The least mark of a row, as an integer. -/
theorem least_at (D : FVec Ideal S256x8192 .f32) (y : S1x1x256.Idx) : least D y
    = FloatOps.fptosi (F := Ideal) (φ := .f32) 32 (Finset.univ.fold min (⊤ : EReal) fun k : Fin 8192 => D (ix2 (y 2) k)) := by
  pointwise [least]
  rw [Cert.Nearest.lit_inf]

/-- The block's computation in those steps. -/
theorem block_eq (C : FVec Ideal S64x8192 .f32) (x : FVec Ideal S256x512 .f32) (W : FVec Ideal S64x512 .f32)
    (I : FVec Ideal S1x8192 .f32) :
    k0_pay2 (F := Ideal) C x W I = least (marked (scores C x W) (best (scores C x W)) I) := rfl

/-- A mark of the block, over the scores of its row. -/
theorem mark_at (C : FVec Ideal S64x8192 .f32) (x : FVec Ideal S256x512 .f32) (W : FVec Ideal S64x512 .f32) (r : Fin 256)
    (k : Fin 8192) : marked (scores C x W) (best (scores C x W)) iotaRow (ix2 r k)
      = if (Finset.univ.fold max (⊥ : EReal) fun k' : Fin 8192 =>
            Cert.Nearest.score (fun q => ∑ d : Fin 512, x (ix2 r d) * W (ix2 q d)) (fun q => C (ix2 q k')))
          ≤ Cert.Nearest.score (fun q => ∑ d : Fin 512, x (ix2 r d) * W (ix2 q d)) (fun q => C (ix2 q k))
        then ((k : ℕ) : EReal) else ((8192 : ℕ) : EReal) := by
  rw [marked_at, best_at, iotaRow_at]
  simp only [scores_at]

/-- What the block's computation leaves at a place: the first best code for the block's row. -/
theorem block_at (C : FVec Ideal S64x8192 .f32) (x : FVec Ideal S256x512 .f32) (W : FVec Ideal S64x512 .f32)
    (y : S1x1x256.Idx) : k0_pay2 (F := Ideal) C x W iotaRow y = Cert.Nearest.pick fun k =>
      Cert.Nearest.score (fun q => ∑ d : Fin 512, x (ix2 (y 2) d) * W (ix2 q d)) (fun q => C (ix2 q k)) := by
  rw [block_eq, least_at]
  unfold Cert.Nearest.pick
  exact congrArg (fun f : Fin 8192 → EReal => FloatOps.fptosi (F := Ideal) (φ := .f32) 32 (Finset.univ.fold min (⊤ : EReal) f))
    (funext fun k => mark_at C x W (y 2) k)

end Cert.KernelIdeal.Nearest
-- ==== Proof.Array.lean ====
module

public import proofs.«01_k».proof.Proof.Gen.KernelIdeal.Frame
public import Idealize.ShloMosaic.Lib.Pipeline.ValueKit
public import Idealize.ShloMosaic.Lib.Pipeline.ReadBack
public import Idealize.ShloMosaic.Lib.Claim
public import proofs.«01_k».proof.Proof.Least

@[expose] public section

set_option maxRecDepth 16384

noncomputable section

open Idealize.ShloMosaic Idealize.ShloMosaic.TcCoe Idealize.SL.Sem
open Idealize.ShloMosaic.Pipeline (Dat)

namespace Cert.KernelIdeal.Nearest
open Cert.KernelIdeal Cert.KernelIdeal.Gen

variable (m : (ℓ : Loc nD τ sig) → Buf (Elt Ideal) ℓ)

/-- Where each window's block lies at point `t`: the activations' block and the result's block are number `t`, the projection and the codebook are read whole. -/
theorem idx : ∀ t : Fin cfg0.N, win0_0.index t = ![t.val, 0] ∧ win0_1.index t = ![0, 0] ∧ win0_2.index t = ![0, 0]
    ∧ win0_3.index t = ![t.val, 0, 0] :=
  (by decide +kernel : ∀ t : Fin grid0.N, _)

/-- The scratch holds the column numbers after every point. -/
theorem scratch_at (c : Dev nD) (n : ℕ) (hn : n < cfg0.N) : (outsAt0 m c n hn).2 = k0_pay1 (F := Ideal) := by
  induction n with
  | zero =>
    rw [outsAt0_A m c ⟨0, hn⟩ (Nat.zero_mod _)]
    frame_out
  | succ n ih =>
    have hN : cfg0.N = 32 := N_0
    rw [outsAt0_B m c ⟨n + 1, hn⟩ (by simp only; omega)]
    frame_out
    exact ih _

/-- Every point leaves in the result's block the block's computation over the point's input blocks. -/
theorem block_out (c : Dev nD) (t : Fin cfg0.N) :
    (outsAt0 m c t.val t.isLt).1 = k0_pay2 (F := Ideal) (iblk m c 2 t) (iblk m c 0 t) (iblk m c 1 t) iotaRow := by
  by_cases h : t.val % 32 = 0
  · rw [outsAt0_A m c t h]
    frame_out
    rw [View.readCov_fill _ _ _ _ _ (by decide)]
    refine congrArg (k0_pay2 (F := Ideal) (iblk m c 2 t) (iblk m c 0 t) (iblk m c 1 t)) ?_
    unfold iotaRow
    with_reducible rfl
  · rw [outsAt0_B m c t h]
    rw [scratch_at]
    frame_out
    rw [read_unread_whole]
    refine congrArg (k0_pay2 (F := Ideal) (iblk m c 2 t) (iblk m c 0 t) (iblk m c 1 t)) ?_
    unfold iotaRow
    with_reducible rfl

/-- The row a place of the result array belongs to. -/
def rowOf (i : S32x1x256.Idx) : Fin 8192 :=
  ⟨(i 0 : ℕ) * 256 + (i 2 : ℕ), by
    have h0 : (i 0 : ℕ) < 32 := (i 0).isLt
    have h2 : (i 2 : ℕ) < 256 := (i 2).isLt
    omega⟩

/-- The activations as the region finds them: the rows of the argument, one after another. -/
abbrev rows (c : Dev nD) : FVec Ideal S8192x512 .f32 :=
  shapeCast S8192x512 (m ((c : Thread nD τ).loc main_arg0) : FVec Ideal S4x2048x512 .f32) Gen.shapeCasts_S4x2048x512_S8192x512

/-- The projection's block is the whole projection. -/
theorem block_W (c : Dev nD) (t : Fin cfg0.N) : iblk m c 1 t = m ((c : Thread nD τ).loc main_arg2) := by
  blk_ext! [iblk, V, idx t]

/-- The codebook's block is the whole codebook. -/
theorem block_C (c : Dev nD) (t : Fin cfg0.N) : iblk m c 2 t = m ((c : Thread nD τ).loc main_arg3) := by
  blk_ext! [iblk, V, idx t]

/-- The activations' array as the region finds it. -/
theorem V_rows (c : Dev nD) : V m c main_v0 = rows m c := by
  show StableHlo.after [_] _ _ = _
  rw [StableHlo.after_cons, StableHlo.after_nil, StableHlo.reshape_result]
  rfl

/-- A row of the activations' block is a row of the activations. -/
theorem block_X (c : Dev nD) (t : Fin cfg0.N) (r : Fin 256) (d : Fin 512) (n : Fin 8192) (hn : n.val = t.val * 256 + r.val) :
    (iblk m c 0 t : FVec Ideal S256x512 .f32) (ix2 r d) = rows m c (ix2 n d) := by
  rw [← V_rows]
  blk_ext [iblk, idx t]

/-- The result array after the run: at each place the first best code for its row. -/
theorem final (c : Dev nD) : (dats m 0 c).arrAt 3 (cfgs 0).N = fun i : S32x1x256.Idx => Cert.Nearest.pick fun k =>
    Cert.Nearest.score
      (fun q => ∑ d : Fin 512, rows m c (ix2 (rowOf i) d) * (m ((c : Thread nD τ).loc main_arg2) : FVec Ideal S64x512 .f32) (ix2 q d))
      (fun q => (m ((c : Thread nD τ).loc main_arg3) : FVec Ideal S64x8192 .f32) (ix2 q k)) := by
  refine (dats m 0 c).arrAt_eq_of_covers 3 _ (by decide +kernel) fun t _ y => ?_
  blk_simp
  rw [after0_3, block_out, block_at]
  have hn : (rowOf ((win0_3.blk t).view.emb y)).val = t.val * 256 + (y 2).val := by
    unfold rowOf
    blk_simp [idx t]
  have hx := fun d => block_X m c t (y 2) d _ hn
  exact congrArg Cert.Nearest.pick (funext fun k => congrArg₂ Cert.Nearest.score
    (funext fun q => Finset.sum_congr rfl fun d _ =>
      congrArg₂ (fun a b : EReal => a * b) (hx d) (congrFun (block_W m c t) (ix2 q d)))
    (funext fun q => congrFun (block_C m c t) (ix2 q k)))

end Cert.KernelIdeal.Nearest
-- ==== Proof.Tail.lean ====
module

public import proofs.«01_k».proof.Proof.Gen.KernelIdeal.Frame
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Nearest
open Cert.KernelIdeal Cert.KernelIdeal.Gen

variable (m : (ℓ : Loc nD τ sig) → Buf (Elt Ideal) ℓ)

/-- The program's result is the result array read row after row. -/
theorem tail (c : Dev nD) :
    Pipeline.afterTail₀ cfgs (dats m) 0 (V0 m) [hostOps1] c main_v2
      = shapeCast S4x2048 ((dats m 0 c).arrAt 3 (cfgs 0).N : IVec S32x1x256 32) Gen.shapeCasts_S32x1x256_S4x2048 := by
  unfold Pipeline.afterTail₀
  show StableHlo.after [_] _ _ = _
  after_region_results
  exact congrArg (fun A : IVec S32x1x256 32 => shapeCast S4x2048 A Gen.shapeCasts_S32x1x256_S4x2048)
    (Pipeline.withArrays_arr (cfgs 0).spec winFacts0.arr_inj c (V0 m c) (fun w => (dats m 0 c).arrAt w (cfgs 0).N) 3)

end Cert.KernelIdeal.Nearest
-- ==== Proof.Result.lean ====
module

public import proofs.«01_k».proof.Proof.Array
public import proofs.«01_k».proof.Proof.Tail

@[expose] public section

set_option maxRecDepth 16384

noncomputable section

open Idealize.ShloMosaic Idealize.ShloMosaic.TcCoe Idealize.SL.Sem
open Idealize.ShloMosaic.Pipeline (Dat)

namespace Cert.KernelIdeal.Nearest
open Cert.KernelIdeal Cert.KernelIdeal.Gen

variable (m : (ℓ : Loc nD τ sig) → Buf (Elt Ideal) ℓ)

/-- Place `(b, l)` of the program's result is read from block `8 b + l / 256`, place `l % 256`. -/
theorem result_at (A : IVec S32x1x256 32) (b : Fin 4) (l : Fin 2048) :
    shapeCast S4x2048 A Gen.shapeCasts_S32x1x256_S4x2048 (ix2 b l)
      = A (ix3 ⟨b.val * 8 + l.val / 256, by omega⟩ 0 ⟨l.val % 256, by omega⟩) := by
  pointwise

/-- A row of the reshaped activations is a row of the argument. -/
theorem rows_at (X : FVec Ideal S4x2048x512 .f32) (b : Fin 4) (l : Fin 2048) (d : Fin 512) :
    shapeCast S8192x512 X Gen.shapeCasts_S4x2048x512_S8192x512 (ix2 ⟨b.val * 2048 + l.val, by omega⟩ d) = X (ix3 b l d) := by
  pointwise

/-- The row that place `(b, l)` of the result belongs to. -/
theorem rowOf_at (b : Fin 4) (l : Fin 2048) :
    rowOf (ix3 ⟨b.val * 8 + l.val / 256, by omega⟩ 0 ⟨l.val % 256, by omega⟩) = ⟨b.val * 2048 + l.val, by omega⟩ := by
  apply Fin.ext
  show (b.val * 8 + l.val / 256) * 256 + l.val % 256 = b.val * 2048 + l.val
  omega

/-- The program's result at `(b, l)`: the first best code for that row. -/
theorem kernel_at (c : Dev nD) (b : Fin 4) (l : Fin 2048) :
    (Pipeline.afterTail₀ cfgs (dats m) 0 (V0 m) [hostOps1] c main_v2 : IVec S4x2048 32) (ix2 b l)
      = Cert.Nearest.codeOf (m ((c : Thread nD τ).loc main_arg0)) (m ((c : Thread nD τ).loc main_arg2))
          (m ((c : Thread nD τ).loc main_arg3)) b l := by
  rw [tail, result_at, final]
  dsimp only
  rw [rowOf_at]
  simp only [rows, rows_at]
  rfl

/-- The program's result, whole. -/
theorem kernel_all (c : Dev nD) :
    (Pipeline.afterTail₀ cfgs (dats m) 0 (V0 m) [hostOps1] c main_v2 : IVec S4x2048 32)
      = Cert.Nearest.codes (m ((c : Thread nD τ).loc main_arg0)) (m ((c : Thread nD τ).loc main_arg2))
          (m ((c : Thread nD τ).loc main_arg3)) := by
  funext j
  rw [eq_ix2 j]
  exact kernel_at m c (j 0) (j 1)

end Cert.KernelIdeal.Nearest
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Agree
public import proofs.«01_k».proof.Proof.Finite
public import proofs.«01_k».proof.Proof.Result
public import Idealize.ShloMosaic.Adequacy
public import Idealize.ShloMosaic.Lib.Claim
public import Idealize.ShloMosaic.Init

@[expose] public section

noncomputable section

namespace Cert.Proof

open Idealize.ShloMosaic Idealize.SL.Sem Cert.Kernel

/-- The kernel at bits runs, leaves its arguments as they were and ends with every semaphore at zero. -/
theorem frame_kernel : Cert.quiescent_Kernel := fun m ρ _ => Cert.Kernel.Gen.frame m ρ

/-- The idealized kernel does too. -/
theorem frame_ideal : Cert.quiescent_KernelIdeal := fun m ρ _ => Cert.KernelIdeal.Gen.frame m ρ

/-- And under the precondition. -/
theorem frame_ideal_finite : Cert.quiescent_KernelIdeal_pre_finite := fun m ρ _ => Cert.KernelIdeal.Gen.frame m ρ

/-- The idealized reference does too. -/
theorem frame_reference : Cert.quiescent_ReferenceIdeal := fun m ρ _ => by
  hlo_run
  · exact fun _ => ⟨trivial, trivial, trivial, trivial⟩
  · exact Idealize.ShloMosaic.sem_eq_zero_of_no_sems (sig := Cert.ReferenceIdeal.sig) (by decide) _

/-- And under the precondition. -/
theorem frame_reference_finite : Cert.quiescent_ReferenceIdeal_pre_finite := fun m ρ _ => frame_reference m ρ trivial

/-- On finite inputs the idealized kernel and the idealized reference end with the same codes: the kernel picks the first
    largest score, the reference the first smallest distance, and a distance is smaller exactly where the score is larger. -/
theorem algebraic : algebraic_KernelIdeal_ReferenceIdeal_pre_finite := by
  pair_intro
  · run_from Cert.KernelIdeal.Gen.run_main m g
    · exact Cert.KernelIdeal.Gen.W_main_arg0 m (Cert.KernelIdeal.Gen.dats m) _
    · exact Cert.KernelIdeal.Gen.W_main_arg1 m (Cert.KernelIdeal.Gen.dats m) _
  · hlo_run
    obtain ⟨hX, hW, hC⟩ := Cert.Pre_finite.Reals.reals _ _ _ _ (fun j => congrFun (hpre c) j)
    simp -implicitDefEqProofs only [StableHlo.TRef.toBuf, StableHlo.TRef.ofBuf, cast_cast, cast_eq]
    exact (Cert.ReferenceIdeal.Nearest.agree_all _ _ _ hX hW hC).trans (Cert.KernelIdeal.Nearest.kernel_all m c).symm

/-- Every claim of this problem, with the facts the programs state. -/
theorem claim : Cert.Claim := ⟨Cert.Kernel.Gen.facts, Cert.KernelIdeal.Gen.facts, Cert.ReferenceIdeal.Gen.facts,
  Cert.Pre_finite.Gen.facts, frame_kernel, frame_ideal, frame_ideal_finite, frame_reference, frame_reference_finite,
  trivial, algebraic⟩

end Cert.Proof

end
